-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x64 : Shape := ⟨3, ![16, 1024, 64]⟩
abbrev S8192x64 : Shape := ⟨2, ![8192, 64]⟩
abbrev S4x4096x64 : Shape := ⟨3, ![4, 4096, 64]⟩
abbrev S4x8x512 : Shape := ⟨3, ![4, 8, 512]⟩
abbrev S1x4096x64 : Shape := ⟨3, ![1, 4096, 64]⟩
abbrev S1x8x512 : Shape := ⟨3, ![1, 8, 512]⟩
abbrev S1x256x64 : Shape := ⟨3, ![1, 256, 64]⟩
abbrev S256x64 : Shape := ⟨2, ![256, 64]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S1x1x256 : Shape := ⟨3, ![1, 1, 256]⟩
abbrev S16x1024 : Shape := ⟨2, ![16, 1024]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S16x1024x64, .f32⟩
  | .hbm, ⟨1, _⟩ => ⟨S8192x64, .f32⟩
  | .hbm, ⟨2, _⟩ => ⟨S4x4096x64, .f32⟩
  | .hbm, ⟨3, _⟩ => ⟨S4x8x512, .i32⟩
  | .hbm, ⟨4, _⟩ => ⟨S16x1024, .i32⟩
  | .hbm, ⟨5, _⟩ => ⟨S_, .f32⟩
  | .local _ .vmem, ⟨0, _⟩ => ⟨S1x4096x64, .f32⟩
  | .local _ .vmem, ⟨1, _⟩ => ⟨S1x4096x64, .f32⟩
  | .local _ .vmem, ⟨2, _⟩ => ⟨S8192x64, .f32⟩
  | .local _ .vmem, ⟨3, _⟩ => ⟨S1x8x512, .i32⟩
  | .local _ .vmem, ⟨4, _⟩ => ⟨S1x8x512, .i32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x1024x64 : Shape := ⟨3, ![16, 1024, 64]⟩
abbrev S8192x64 : Shape := ⟨2, ![8192, 64]⟩
abbrev S64x8192 : Shape := ⟨2, ![64, 8192]⟩
abbrev S16x1024x8192 : Shape := ⟨3, ![16, 1024, 8192]⟩
abbrev S_ : Shape := ⟨0, ![]⟩
abbrev S16x1024 : Shape := ⟨2, ![16, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S8192x64, .f32⟩
  | .hbm, ⟨2, _⟩ => ⟨S64x8192, .f32⟩
  | .hbm, ⟨3, _⟩ => ⟨S16x1024x8192, .f32⟩
  | .hbm, ⟨4, _⟩ => ⟨S16x1024x8192, .i32⟩
  | .hbm, ⟨5, _⟩ => ⟨S_, .f32⟩
  | .hbm, ⟨6, _⟩ => ⟨S_, .i32⟩
  | .hbm, ⟨7, _⟩ => ⟨S16x1024, .f32⟩
  | .hbm, ⟨8, _⟩ => ⟨S16x1024, .i32⟩
  | .hbm, ⟨9, _⟩ => ⟨S_, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_cst : Ref sig .tc := ⟨.hbm, 9, rfl⟩

abbrev nD : Nat := 1
abbrev τ : Topo := Topo.v7x

variable {F : FTy → Type} [FloatOps F]
-- ==== Proof.Tile.lean ====
/-
  One tile of the kernel's body: 256 rows of the block of `x` against the whole codebook. The body
  spells this computation out sixteen times; here it is stated once, as a recursion over the chunks of
  128 codes.
-/
module

public import proofs.«01_k».proof.Proof.Gen.KernelIdeal.Skeleton

@[expose] public section

noncomputable section

namespace Cert.Lookup

open Idealize.ShloMosaic Cert.KernelIdeal Cert.KernelIdeal.Gen

variable {F : FTy → Type} [FloatOps F]

/-- A chunk of 128 codes lies inside the 8192 codes. -/
theorem chunk_slices (n : ℕ) (hn : n < 64) : S256x8192.Slices ![0, 128 * n] S256x128 := by
  refine ⟨rfl, fun a => ?_⟩
  match a with
  | ⟨0, _⟩ => exact Nat.le_refl 256
  | ⟨1, _⟩ => show 128 * n + 128 ≤ 8192; omega

/-- The logits of the 128 codes of chunk `n`. -/
def chunk (L : FVec F S256x8192 .f32) (n : ℕ) (hn : n < 64) : FVec F S256x128 .f32 :=
  extractStridedSlice S256x128 ![0, 128 * n] L (chunk_slices n hn)

/-- The exponent of a chunk's number. -/
def expo (n : ℕ) : ℕ :=
  if n < 2 then 0 else if n < 4 then 1 else if n < 8 then 2 else if n < 16 then 3 else if n < 32 then 4 else 5

/-- The single-precision word of a chunk's number. -/
def word (n : ℕ) : BitVec 32 :=
  if n = 0 then 0x00000000#32 else BitVec.ofNat 32 ((126 + expo n) * 2 ^ 23 + n * 2 ^ (23 - expo n))

/-- Lane by lane, the greatest logit of the chunks `0 … n`. -/
def best (L : FVec F S256x8192 .f32) : (n : ℕ) → n < 64 → FVec F S256x128 .f32
  | 0, h => chunk L 0 h
  | n + 1, h => maximumf (chunk L (n + 1) h) (best L n (Nat.lt_of_succ_lt h))

/-- Lane by lane, the number, as a float, of the chunk where that logit was met. -/
def which (L : FVec F S256x8192 .f32) : (n : ℕ) → n < 64 → FVec F S256x128 .f32
  | 0, _ => broadcast S256x128 (Scalar.ofBits .f32 (word 0))
  | n + 1, h =>
    select (cmpf .ogt (chunk L (n + 1) h) (best L n (Nat.lt_of_succ_lt h)))
      (broadcast S256x128 (Scalar.ofBits .f32 (word (n + 1)))) (which L n (Nat.lt_of_succ_lt h))

theorem best_zero (L : FVec F S256x8192 .f32) (h : 0 < 64) : best L 0 h = chunk L 0 h := rfl

theorem best_succ (L : FVec F S256x8192 .f32) (n : ℕ) (h : n + 1 < 64) :
    best L (n + 1) h = maximumf (chunk L (n + 1) h) (best L n (Nat.lt_of_succ_lt h)) := rfl

theorem which_zero (L : FVec F S256x8192 .f32) (h : 0 < 64) :
    which L 0 h = broadcast S256x128 (Scalar.ofBits .f32 (word 0)) := rfl

theorem which_succ (L : FVec F S256x8192 .f32) (n : ℕ) (h : n + 1 < 64) :
    which L (n + 1) h = select (cmpf .ogt (chunk L (n + 1) h) (best L n (Nat.lt_of_succ_lt h)))
      (broadcast S256x128 (Scalar.ofBits .f32 (word (n + 1)))) (which L n (Nat.lt_of_succ_lt h)) := rfl

/-- From the lanes' greatest logits and their chunks to the 256 indices. -/
def finish (bv bc : FVec F S256x128 .f32) : IVec S1x1x256 32 :=
  shapeCast S1x1x256
    (fptosi 32 (multiReduction .minimumf [1] S256
      (select
        (cmpf .oeq bv
          (broadcastTo S256x128
            (shapeCast S256x1
              (multiReduction .maximumf [1] S256 bv 0xFF800000#32 reduces_S256x128_S256 (.inl rfl) rfl)
              shapeCasts_S256_S256x1)
            broadcasts_S256x1_S256x128))
        (addf (mulf bc (broadcast S256x128 (Scalar.ofBits .f32 0x43000000#32)))
          (sitofp .f32 (iota .tc S256x128 32 [1] iota_S256x128_d1_w32)))
        (broadcast S256x128 (Scalar.ofBits .f32 0x46000000#32)))
      0x7F800000#32 reduces_S256x128_S256 (.inl rfl) rfl))
    shapeCasts_S256_S1x1x256

/-- The logits of 256 rows against the codebook. -/
def logits (cb : Vec F S8192x64 .f32) (xt : Vec F S1x256x64 .f32) : FVec F S256x8192 .f32 :=
  matmul dot_S256x64_S8192x64_S256x8192_1_1_0_0_n_n none
    (shapeCast S256x64 xt shapeCasts_S1x256x64_S256x64) cb (constant S256x8192 .f32 0x00000000#32)

/-- The indices of 256 rows. -/
def tile (cb : Vec F S8192x64 .f32) (xt : Vec F S1x256x64 .f32) : IVec S1x1x256 32 :=
  finish (best (logits cb xt) 63 (by decide)) (which (logits cb xt) 63 (by decide))

end Cert.Lookup
-- ==== Proof.Pick.lean ====
/-
  The place of a row's maximum, FIRST place on ties, among 8192 extended reals; and the two ways the
  programs find it: lane by lane with a minimum over the lanes, and by one fold over (value, place) pairs.
-/
module

public import Mathlib.Data.EReal.Basic
public import Mathlib.Data.Finset.Fold
public import Mathlib.Data.Finset.Max
public import Mathlib.Data.Fintype.Basic

@[expose] public section

noncomputable section

namespace Cert.Lookup

/-- `k` is the first place where `L` takes its greatest value. -/
def IsFirst (L : Fin 8192 → EReal) (k : ℕ) : Prop :=
  ∃ hk : k < 8192, (∀ j, L j ≤ L ⟨k, hk⟩) ∧ ∀ j : Fin 8192, j.val < k → L j < L ⟨k, hk⟩

/-- There is at most one such place. -/
theorem IsFirst.unique {L : Fin 8192 → EReal} {k l : ℕ} (hk : IsFirst L k) (hl : IsFirst L l) : k = l := by
  obtain ⟨bk, mk, sk⟩ := hk
  obtain ⟨bl, ml, sl⟩ := hl
  rcases lt_trichotomy k l with h | h | h
  · exact absurd (sl ⟨k, bk⟩ h) (not_lt.mpr (mk _))
  · exact h
  · exact absurd (sk ⟨l, bl⟩ h) (not_lt.mpr (ml _))

/-- A place of the greatest value that is no later than any other such place is the first one. -/
theorem isFirst_of_le {L : Fin 8192 → EReal} {k : ℕ} (hk : k < 8192) (hm : ∀ j, L j ≤ L ⟨k, hk⟩)
    (hf : ∀ j : Fin 8192, L j = L ⟨k, hk⟩ → k ≤ j.val) : IsFirst L k :=
  ⟨hk, hm, fun j hj => lt_of_le_of_ne (hm j) fun e => absurd (hf j e) (not_le.mpr hj)⟩

/-- There is one. -/
theorem exists_isFirst (L : Fin 8192 → EReal) : ∃ k, IsFirst L k := by
  obtain ⟨m, -, hm⟩ := Finset.exists_max_image Finset.univ L ⟨0, Finset.mem_univ _⟩
  obtain ⟨k, hk, hf⟩ := Finset.exists_min_image (Finset.univ.filter fun j => L j = L m) (fun j => j.val)
    ⟨m, by simp⟩
  have ek : L k = L m := (Finset.mem_filter.mp hk).2
  refine ⟨k.val, isFirst_of_le k.isLt (fun j => ?_) fun j hj => ?_⟩
  · exact (hm j (Finset.mem_univ _)).trans_eq ek.symm
  · exact hf j (Finset.mem_filter.mpr ⟨Finset.mem_univ _, hj.trans ek⟩)

/-- The first place where `L` takes its greatest value. -/
def first (L : Fin 8192 → EReal) : ℕ := (exists_isFirst L).choose

theorem isFirst_first (L : Fin 8192 → EReal) : IsFirst L (first L) := (exists_isFirst L).choose_spec

theorem first_lt (L : Fin 8192 → EReal) : first L < 8192 := (isFirst_first L).1

theorem first_eq {L : Fin 8192 → EReal} {k : ℕ} (h : IsFirst L k) : first L = k := (isFirst_first L).unique h

/-! ## Lane by lane -/

/-- The place of chunk `c`, lane `l`. -/
def place (c : ℕ) (hc : c < 64) (l : Fin 128) : Fin 8192 := ⟨128 * c + l.val, by omega⟩

/-- Every place is one of these. -/
theorem exists_place (j : Fin 8192) : ∃ (c : ℕ) (hc : c < 64) (l : Fin 128), j = place c hc l :=
  ⟨j.val / 128, by omega, ⟨j.val % 128, by omega⟩, Fin.ext (by simp only [place]; omega)⟩

/-- Lane `l`'s greatest value `v` was met first in chunk `c`. -/
def LaneFirst (L : Fin 8192 → EReal) (l : Fin 128) (v : EReal) (c : ℕ) : Prop :=
  ∃ hc : c < 64, v = L (place c hc l) ∧ (∀ m (hm : m < 64), L (place m hm l) ≤ v)
    ∧ ∀ m (hm : m < 64), m < c → L (place m hm l) < v

/-- Given each lane's greatest value `bv l` and first chunk `c l`, the least of the places `128 · c l + l` over the
    lanes whose value is the greatest of all, the other lanes answering 8192, is the first place. -/
theorem fold_lanes (L : Fin 8192 → EReal) (bv : Fin 128 → EReal) (c : Fin 128 → ℕ) (t : Fin 128 → EReal)
    (h : ∀ l, LaneFirst L l (bv l) (c l))
    (ht : ∀ l, t l = if bv l = Finset.univ.fold max ⊥ bv then ((128 * c l + l.val : ℕ) : EReal) else ((8192 : ℕ) : EReal)) :
    Finset.univ.fold min ⊤ t = ((first L : ℕ) : EReal) := by
  have hsup : ∀ l, bv l ≤ Finset.univ.fold max ⊥ bv := fun l =>
    (Finset.le_fold_max (bv l)).mpr (.inr ⟨l, Finset.mem_univ _, le_rfl⟩)
  obtain ⟨l₀, -, hl₀⟩ := Finset.exists_max_image Finset.univ bv ⟨0, Finset.mem_univ _⟩
  have e₀ : bv l₀ = Finset.univ.fold max ⊥ bv :=
    le_antisymm (hsup l₀) ((Finset.fold_max_le _).mpr ⟨bot_le, fun x hx => hl₀ x hx⟩)
  obtain ⟨l₁, h₁, hmin⟩ := Finset.exists_min_image
    (Finset.univ.filter fun l => bv l = Finset.univ.fold max ⊥ bv) (fun l => 128 * c l + l.val)
    ⟨l₀, Finset.mem_filter.mpr ⟨Finset.mem_univ _, e₀⟩⟩
  have e₁ : bv l₁ = Finset.univ.fold max ⊥ bv := (Finset.mem_filter.mp h₁).2
  obtain ⟨hc₁, hv₁, -, -⟩ := h l₁
  have hfirst : first L = 128 * c l₁ + l₁.val := by
    refine first_eq (isFirst_of_le (place _ hc₁ l₁).isLt (fun j => ?_) fun j hj => ?_)
    · obtain ⟨m, hm, l, rfl⟩ := exists_place j
      calc L (place m hm l) ≤ bv l := (h l).2.2.1 m hm
        _ ≤ Finset.univ.fold max ⊥ bv := hsup l
        _ = L (place _ hc₁ l₁) := by rw [← e₁]; exact hv₁
    · obtain ⟨m, hm, l, rfl⟩ := exists_place j
      have hj' : L (place m hm l) = Finset.univ.fold max ⊥ bv :=
        hj.trans ((show L ⟨_, (place _ hc₁ l₁).isLt⟩ = bv l₁ from hv₁.symm).trans e₁)
      obtain ⟨hcl, -, hle, hlt⟩ := h l
      have el : bv l = Finset.univ.fold max ⊥ bv := le_antisymm (hsup l) (hj' ▸ hle m hm)
      have hcm : c l ≤ m := by
        by_contra hn
        exact absurd (hlt m hm (not_le.mp hn)) (by rw [hj', el]; exact lt_irrefl _)
      have := hmin l (Finset.mem_filter.mpr ⟨Finset.mem_univ _, el⟩)
      simp only [place]
      omega
  have hle : ∀ {a b : ℕ}, a ≤ b → ((a : ℕ) : EReal) ≤ ((b : ℕ) : EReal) := fun hab => by exact_mod_cast hab
  refine le_antisymm ((Finset.fold_min_le _).mpr (.inr ⟨l₁, Finset.mem_univ _, ?_⟩))
    ((Finset.le_fold_min _).mpr ⟨le_top, fun l _ => ?_⟩)
  · rw [ht, if_pos e₁, hfirst]
  · rw [ht]
    split
    · next el => exact hle (hfirst.le.trans (hmin l (Finset.mem_filter.mpr ⟨Finset.mem_univ _, el⟩)))
    · exact hle (first_lt L).le

/-! ## By one fold over (value, place) pairs -/

/-- One step of the fold: the pair of the greater value, the earlier place on equal values. -/
def keep (a b : EReal × ℕ) : EReal × ℕ :=
  if b.1 < a.1 then a else if a.1 = b.1 ∧ a.2 < b.2 then a else b

/-- What the fold over a list of pairs `(L j, j)` has reached from a pair `(v, k)`. -/
theorem foldl_keep (L : Fin 8192 → EReal) : ∀ (l : List (Fin 8192)) (a : EReal × ℕ),
    let r := (l.map fun j => (L j, j.val)).foldl keep a
    a.1 ≤ r.1 ∧ (a.1 = r.1 → r.2 ≤ a.2) ∧ (∀ j ∈ l, L j ≤ r.1 ∧ (L j = r.1 → r.2 ≤ j.val))
      ∧ (r = a ∨ ∃ j ∈ l, r = (L j, j.val))
  | [], a => ⟨le_rfl, fun _ => le_rfl, fun _ h => absurd h List.not_mem_nil, .inl rfl⟩
  | i :: l, a => by
    obtain ⟨h1, h2, h3, h4⟩ := foldl_keep L l (keep a (L i, i.val))
    simp only [List.map_cons, List.foldl_cons]
    generalize (l.map fun j => (L j, j.val)).foldl keep (keep a (L i, i.val)) = r at h1 h2 h3 h4
    have hk : (a.1 ≤ (keep a (L i, i.val)).1 ∧ (a.1 = (keep a (L i, i.val)).1 → (keep a (L i, i.val)).2 ≤ a.2))
        ∧ (L i ≤ (keep a (L i, i.val)).1 ∧ (L i = (keep a (L i, i.val)).1 → (keep a (L i, i.val)).2 ≤ i.val))
        ∧ (keep a (L i, i.val) = a ∨ keep a (L i, i.val) = (L i, i.val)) := by
      unfold keep
      split
      · next h => exact ⟨⟨le_rfl, fun _ => le_rfl⟩, ⟨h.le, fun e => absurd h (by simp only [e]; exact lt_irrefl _)⟩, .inl rfl⟩
      · next h =>
        split
        · next h' => exact ⟨⟨le_rfl, fun _ => le_rfl⟩, ⟨h'.1.ge, fun _ => h'.2.le⟩, .inl rfl⟩
        · next h' =>
          exact ⟨⟨not_lt.mp h, fun e => not_lt.mp fun hlt => h' ⟨e, hlt⟩⟩, ⟨le_rfl, fun _ => le_rfl⟩, .inr rfl⟩
    obtain ⟨⟨ka, ka'⟩, ⟨ki, ki'⟩, kr⟩ := hk
    refine ⟨ka.trans h1, fun e => ?_, fun j hj => ?_, ?_⟩
    · have e' : a.1 = (keep a (L i, i.val)).1 := le_antisymm ka (h1.trans_eq e.symm)
      exact (h2 (e'.symm.trans e)).trans (ka' e')
    · rcases List.mem_cons.mp hj with rfl | hj
      · refine ⟨ki.trans h1, fun e => ?_⟩
        have e' : L j = (keep a (L j, j.val)).1 := le_antisymm ki (h1.trans_eq e.symm)
        exact (h2 (e'.symm.trans e)).trans (ki' e')
      · exact h3 j hj
    · rcases h4 with h4 | ⟨j, hj, h4⟩
      · rcases kr with kr | kr
        · exact .inl (h4.trans kr)
        · exact .inr ⟨i, List.mem_cons_self, h4.trans kr⟩
      · exact .inr ⟨j, List.mem_cons_of_mem _ hj, h4⟩

/-- The fold over pairs of all the places, in any order, from minus infinity and place 0, ends at the first place of
    the greatest value. -/
theorem foldl_keep_all (L : Fin 8192 → EReal) (l : List (Fin 8192)) (hl : ∀ j, j ∈ l) :
    ((l.map fun j => (L j, j.val)).foldl keep (⊥, 0)).2 = first L := by
  obtain ⟨-, -, h3, h4⟩ := foldl_keep L l (⊥, 0)
  generalize (l.map fun j => (L j, j.val)).foldl keep (⊥, 0) = r at h3 h4
  symm
  rcases h4 with rfl | ⟨j, -, rfl⟩
  · have hb : ∀ j, L j = ⊥ := fun j => le_bot_iff.mp (h3 j (hl j)).1
    exact first_eq (isFirst_of_le (by decide) (fun j => by rw [hb j]; exact bot_le) fun j _ => Nat.zero_le _)
  · exact first_eq (isFirst_of_le j.isLt (fun i => (h3 i (hl i)).1) fun i hi => (h3 i (hl i)).2 hi)

end Cert.Lookup
-- ==== Proof.TileValue.lean ====
/-
  What one tile computes at the ideal values: row `r`'s index is the first place of the greatest logit.
-/
module

public import proofs.«01_k».proof.Proof.Tile
public import proofs.«01_k».proof.Proof.Pick
public import Idealize.ShloMosaic.PureOps.Ideal.Laws
public import Idealize.ShloMosaic.Lib.ValueIdx

@[expose] public section

noncomputable section

namespace Cert.Lookup

open Idealize.ShloMosaic
open Idealize.ShloMosaic.ValueIdx Cert.KernelIdeal Cert.KernelIdeal.Gen

/-! ## The float constants -/

/-- A chunk's word denotes its number. -/
theorem ofBits_word (n : ℕ) (hn : n < 64) : Ideal.ofBits .f32 (word n) = ((n : ℕ) : EReal) := by
  rw [← EReal.coe_coe_eq_natCast]
  interval_cases n <;> simp [word, expo, Ideal.ofBits, Ideal.ieee] <;> rw [← EReal.coe_mul] <;> norm_num

theorem ofBits_128 : Ideal.ofBits .f32 0x43000000#32 = ((128 : ℕ) : EReal) := by
  rw [← EReal.coe_coe_eq_natCast]; simp [Ideal.ofBits, Ideal.ieee]; rw [← EReal.coe_mul]; norm_num

theorem ofBits_8192 : Ideal.ofBits .f32 0x46000000#32 = ((8192 : ℕ) : EReal) := by
  rw [← EReal.coe_coe_eq_natCast]; simp [Ideal.ofBits, Ideal.ieee]; rw [← EReal.coe_mul]; norm_num

theorem ofBits_minus_inf : Ideal.ofBits .f32 0xFF800000#32 = (⊥ : EReal) := by simp [Ideal.ofBits, Ideal.ieee]

theorem ofBits_plus_inf : Ideal.ofBits .f32 0x7F800000#32 = (⊤ : EReal) := by simp [Ideal.ofBits, Ideal.ieee]

/-- A small natural number, read as a float and converted back to an integer, is itself. -/
theorem fptosi_nat (k : ℕ) (hk : k < 8192) : Ideal.fptosi 32 ((k : ℕ) : EReal) = BitVec.ofNat 32 k := by
  rw [← EReal.coe_coe_eq_natCast, Ideal.fptosi, Ideal.toIntClamped_coe, if_pos (Nat.cast_nonneg k)]
  rw [Int.floor_natCast]
  have h1 : min ((2 ^ (32 - 1) : ℕ) - 1 : ℤ) (k : ℤ) = k := min_eq_right (by norm_num; omega)
  have h2 : max (-((2 ^ (32 - 1) : ℕ) : ℤ)) (k : ℤ) = k := max_eq_right (by norm_num)
  rw [h1, h2, BitVec.ofInt_natCast]

/-- A select on a decided bit is the conditional. -/
theorem select_ofBool {α : Type} (p : Prop) [Decidable p] (a b : α) :
    Scalar.select (BitVec.ofBool (decide p)) a b = if p then a else b := by
  by_cases h : p
  · rw [decide_eq_true h, if_pos h]; exact select_one a b
  · rw [decide_eq_false h, if_neg h]; exact select_zero a b

/-- A splat of a word's value, at an index. -/
theorem splat_apply (b : BitVec 32) (i : S256x128.Idx) :
    broadcast S256x128 (Scalar.ofBits (F := Ideal) .f32 b) i = Ideal.ofBits .f32 b := rfl

/-- A choice by a greater-than comparison, at an index. -/
theorem select_ogt (x y a b : FVec Ideal S256x128 .f32) (i : S256x128.Idx) :
    select (cmpf .ogt x y) a b i = if (y i : EReal) < x i then a i else b i := select_ofBool _ _ _

/-- A choice by an equality comparison, at an index. -/
theorem select_oeq (x y a b : FVec Ideal S256x128 .f32) (i : S256x128.Idx) :
    select (cmpf .oeq x y) a b i = if (x i : EReal) = y i then a i else b i := select_ofBool _ _ _

/-- The greater of two vectors, at an index. -/
theorem max_apply (x y : FVec Ideal S256x128 .f32) (i : S256x128.Idx) :
    maximumf x y i = max (x i : EReal) (y i) := rfl

/-! ## The scan -/

/-- Chunk `n` at row `r`, lane `l` is the logit of place `128 n + l`. -/
theorem chunk_apply (L : FVec Ideal S256x8192 .f32) (n : ℕ) (hn : n < 64) (r : Fin 256) (l : Fin 128) :
    chunk L n hn (ix2 r l) = L (ix2 r (place n hn l)) := by
  exact congrArg L (funext fun a => match a with
    | ⟨0, _⟩ => Fin.ext (Nat.zero_add r.val)
    | ⟨1, _⟩ => rfl)

/-- The scan's two vectors after chunk `n`. -/
theorem scan_apply (L : FVec Ideal S256x8192 .f32) (r : Fin 256) (l : Fin 128) : ∀ (n : ℕ) (hn : n < 64),
    ∃ (c : ℕ) (hc : c ≤ n), which L n hn (ix2 r l) = ((c : ℕ) : EReal)
      ∧ best L n hn (ix2 r l) = L (ix2 r (place c (hc.trans_lt hn) l))
      ∧ (∀ m (hm : m ≤ n), L (ix2 r (place m (hm.trans_lt hn) l)) ≤ best L n hn (ix2 r l))
      ∧ ∀ m (hm : m < 64), m < c → L (ix2 r (place m hm l)) < best L n hn (ix2 r l)
  | 0, hn => by
    refine ⟨0, le_rfl, ?_, chunk_apply L 0 hn r l, fun m hm => ?_, fun m _ h => absurd h (Nat.not_lt_zero m)⟩
    · rw [which_zero, splat_apply, ofBits_word 0 hn]
    · obtain rfl : m = 0 := Nat.le_zero.mp hm
      exact (chunk_apply L 0 hn r l).ge
  | n + 1, hn => by
    obtain ⟨c, hc, hw, hb, hall, hlt⟩ := scan_apply L r l n (Nat.lt_of_succ_lt hn)
    have eb : best L (n + 1) hn (ix2 r l)
        = max (L (ix2 r (place (n + 1) hn l)) : EReal) (best L n (Nat.lt_of_succ_lt hn) (ix2 r l)) := by
      rw [best_succ, max_apply, chunk_apply]
    have ew : which L (n + 1) hn (ix2 r l)
        = if best L n (Nat.lt_of_succ_lt hn) (ix2 r l) < (L (ix2 r (place (n + 1) hn l)) : EReal)
          then (((n + 1 : ℕ) : ℕ) : EReal) else which L n (Nat.lt_of_succ_lt hn) (ix2 r l) := by
      rw [which_succ, select_ogt, splat_apply, chunk_apply, ofBits_word (n + 1) hn]
    by_cases h : best L n (Nat.lt_of_succ_lt hn) (ix2 r l) < (L (ix2 r (place (n + 1) hn l)) : EReal)
    · rw [max_eq_left h.le] at eb
      rw [if_pos h] at ew
      refine ⟨n + 1, le_rfl, ew, eb, fun m hm => ?_, fun m hm hmn => ?_⟩
      · rw [eb]
        rcases Nat.lt_or_ge m (n + 1) with h' | h'
        · exact (hall m (Nat.le_of_lt_succ h')).trans h.le
        · obtain rfl : m = n + 1 := le_antisymm hm h'
          exact le_rfl
      · rw [eb]; exact (hall m (Nat.le_of_lt_succ hmn)).trans_lt h
    · rw [max_eq_right (not_lt.mp h)] at eb
      rw [if_neg h] at ew
      refine ⟨c, hc.trans (Nat.le_succ n), ew.trans hw, eb.trans hb, fun m hm => ?_, fun m hm hmc => ?_⟩
      · rw [eb]
        rcases Nat.lt_or_ge m (n + 1) with h' | h'
        · exact hall m (Nat.le_of_lt_succ h')
        · obtain rfl : m = n + 1 := le_antisymm hm h'
          exact not_lt.mp h
      · rw [eb]; exact hlt m hm hmc

end Cert.Lookup
-- ==== Proof.TileRow.lean ====
/-
  One row of a tile at the ideal values: from the scan's two vectors to the row's index.
-/
module

public import proofs.«01_k».proof.Proof.TileValue

@[expose] public section

noncomputable section

namespace Cert.Lookup

open Idealize.ShloMosaic
open Idealize.ShloMosaic.ValueIdx Cert.KernelIdeal Cert.KernelIdeal.Gen

/-! ## From the lanes to the index -/

/-- The lane's number as a float. -/
theorem lane_number (r : Fin 256) (l : Fin 128) :
    (sitofp .f32 (iota .tc S256x128 32 [1] iota_S256x128_d1_w32) : FVec Ideal S256x128 .f32) (ix2 r l)
      = ((l.val : ℕ) : EReal) := by
  show (((BitVec.ofNat 32 (0 * 128 + l.val)).toInt : ℝ) : EReal) = _
  have h : (BitVec.ofNat 32 (0 * 128 + l.val)).toInt = (l.val : ℤ) := by
    rw [BitVec.toInt_ofNat', Nat.zero_mul, Nat.zero_add]
    exact Int.bmod_eq_of_le (by norm_num) (by have := l.isLt; norm_num; omega)
  rw [h, ← EReal.coe_coe_eq_natCast, Int.cast_natCast]

/-- The reduced index with a lane inserted. -/
theorem lift_lane (r : Fin 256) (l : Fin 128) : (reduces_S256x128_S256.lift (ix1 r) l : S256x128.Idx) = ix2 r l :=
  funext fun a => match a with | ⟨0, _⟩ => rfl | ⟨1, _⟩ => rfl

/-- The row's maximum over the lanes. -/
theorem row_max (bv : FVec Ideal S256x128 .f32) (r : Fin 256) :
    multiReduction .maximumf [1] S256 bv 0xFF800000#32 reduces_S256x128_S256 (.inl rfl) rfl (ix1 r)
      = Finset.univ.fold max (⊥ : EReal) fun l : Fin 128 => bv (ix2 r l) := by
  refine (Ideal.multiReduction_maximumf_single bv _ reduces_S256x128_S256 _ _ (ix1 r)).trans ?_
  rw [← ofBits_minus_inf]
  exact congrArg (Finset.univ.fold max _) (funext fun l => congrArg bv (lift_lane r l))

/-- The row's minimum over the lanes. -/
theorem row_min (t : FVec Ideal S256x128 .f32) (r : Fin 256) :
    multiReduction .minimumf [1] S256 t 0x7F800000#32 reduces_S256x128_S256 (.inl rfl) rfl (ix1 r)
      = Finset.univ.fold min (⊤ : EReal) fun l : Fin 128 => t (ix2 r l) := by
  refine (multiReduction_minimumf_eq_fold t _ reduces_S256x128_S256 _ _ (ix1 r)).trans ?_
  refine (reduces_S256x128_S256.fold_filter_drop_single _ _ t (ix1 r)).trans ?_
  rw [← ofBits_plus_inf]
  exact congrArg (Finset.univ.fold min _) (funext fun l => congrArg t (lift_lane r l))

/-- The row's maximum, spread over the lanes. -/
theorem spread_apply (m : FVec Ideal S256 .f32) (r : Fin 256) (l : Fin 128) :
    broadcastTo S256x128 (shapeCast S256x1 m shapeCasts_S256_S256x1) broadcasts_S256x1_S256x128 (ix2 r l) = m (ix1 r) := by
  refine congrArg m (Shape.reshapeEquiv_eq_of_rowMajor _ ?_)
  rw [Shape.rowMajor_val_one, Shape.rowMajor_val_two]
  show r.val = r.val * 1 + 0
  omega

/-- The indices of the rows, given what the scan left in each lane. -/
theorem finish_apply (L : Fin 8192 → EReal) (bv bc : FVec Ideal S256x128 .f32) (r : Fin 256) (c : Fin 128 → ℕ)
    (hc : ∀ l, bc (ix2 r l) = ((c l : ℕ) : EReal)) (h : ∀ l, LaneFirst L l (bv (ix2 r l)) (c l)) :
    finish bv bc (ix3 0 0 r) = BitVec.ofNat 32 (first L) := by
  rw [← fptosi_nat (first L) (first_lt L)]
  unfold finish
  refine (congrArg _ (Shape.reshapeEquiv_eq_of_rowMajor (y := ix1 r) shapeCasts_S256_S1x1x256 ?_)).trans ?_
  · rw [Shape.rowMajor_val_one, Shape.rowMajor_val_three]
    show r.val = (0 * 1 + 0) * 256 + r.val
    omega
  refine congrArg (Ideal.fptosi 32) ((row_min _ r).trans ?_)
  refine fold_lanes L (fun l => bv (ix2 r l)) c _ h fun l => ?_
  rw [select_oeq, spread_apply, row_max, splat_apply, ofBits_8192]
  refine if_congr Iff.rfl ?_ rfl
  rw [addf_apply, mulf_apply, splat_apply, lane_number, ofBits_128, hc, ← EReal.coe_coe_eq_natCast, ← EReal.coe_coe_eq_natCast, ← EReal.coe_coe_eq_natCast,
    ← EReal.coe_coe_eq_natCast, ← EReal.coe_mul, ← EReal.coe_add]
  congr 1
  push_cast
  ring

/-! ## The logits -/

/-- A logit is the sum of the products of the row's elements by the code's. -/
theorem logits_apply (cb : Vec Ideal S8192x64 .f32) (xt : Vec Ideal S1x256x64 .f32) (r : Fin 256) (j : Fin 8192) :
    logits cb xt (ix2 r j) = ∑ d : Fin 64, (xt (ix3 0 r d) * cb (ix2 j d) : EReal) := by
  unfold logits
  refine (Ideal.matmul_constant_zero_apply _ _ _ _ _).trans ?_
  rw [← Equiv.sum_comp (contrEquiv1 dot_S256x64_S8192x64_S256x8192_1_1_0_0_n_n 64 rfl rfl).symm]
  refine Finset.sum_congr rfl fun d _ => ?_
  congr 1
  · refine congrArg xt (Shape.reshapeEquiv_eq_of_rowMajor _ ?_)
    rw [Shape.rowMajor_val_three, Shape.rowMajor_val_two]
    show (0 * 256 + r.val) * 64 + d.val = r.val * 64 + d.val
    omega
  · exact congrArg cb (funext fun a => match a with | ⟨0, _⟩ => rfl | ⟨1, _⟩ => rfl)

/-- One tile: row `r`'s index is the first place of the greatest of the row's products with the codes. -/
theorem tile_apply (cb : Vec Ideal S8192x64 .f32) (xt : Vec Ideal S1x256x64 .f32) (r : Fin 256) :
    tile cb xt (ix3 0 0 r)
      = BitVec.ofNat 32 (first fun j => ∑ d : Fin 64, (xt (ix3 0 r d) * cb (ix2 j d) : EReal)) := by
  rw [show (fun j => ∑ d : Fin 64, (xt (ix3 0 r d) * cb (ix2 j d) : EReal)) = fun j => logits cb xt (ix2 r j) from
    funext fun j => (logits_apply cb xt r j).symm]
  have hs := fun l => scan_apply (logits cb xt) r l 63 (by decide)
  refine finish_apply _ _ _ r (fun l => (hs l).choose) (fun l => (hs l).choose_spec.2.1) fun l => ?_
  obtain ⟨hc, -, hb, hall, hlt⟩ := (hs l).choose_spec
  exact ⟨hc.trans_lt (by decide), hb, fun m hm => hall m (Nat.le_of_lt_succ hm), hlt⟩

end Cert.Lookup
-- ==== Proof.Block.lean ====
/-
  What the body leaves in its output buffer at one grid point: the sixteen stores are sixteen tiles, so
  the buffer's element at row `a`, column `l` is the index of the block's row `512 a + l`.
-/
module

public import proofs.«01_k».proof.Proof.Gen.KernelIdeal.Frame
public import proofs.«01_k».proof.Proof.TileRow
public import Idealize.ShloMosaic.Lib.Pipeline.ValueKit.Tiles

@[expose] public section

noncomputable section

namespace Cert.Lookup

open Idealize.ShloMosaic
open Idealize.ShloMosaic.ValueIdx Cert.KernelIdeal Cert.KernelIdeal.Gen

variable {F : FTy → Type} [FloatOps F]

/-- Tile `s` reads 256 rows of the block of `x`, … -/
theorem rows_inb (s : Fin 16) : ∀ a, (![0, 256 * s.val, 0] : Fin 3 → ℕ) a + S1x256x64.size a ≤ S1x4096x64.size a
  | ⟨0, _⟩ => Nat.le_refl 1
  | ⟨1, _⟩ => show 256 * s.val + 256 ≤ 4096 by omega
  | ⟨2, _⟩ => Nat.le_refl 64

/-- … those from row `256 s` on, … -/
abbrev rows (s : Fin 16) : Rect S1x4096x64 := Rect.unit (s := S1x4096x64) ![0, 256 * s.val, 0] S1x256x64.size (rows_inb s)

/-- … and stores 256 indices, … -/
theorem cells_inb (s : Fin 16) :
    ∀ a, (![0, s.val / 2, 256 * (s.val % 2)] : Fin 3 → ℕ) a + S1x1x256.size a ≤ S1x8x512.size a
  | ⟨0, _⟩ => Nat.le_refl 1
  | ⟨1, _⟩ => show s.val / 2 + 1 ≤ 8 by omega
  | ⟨2, _⟩ => show 256 * (s.val % 2) + 256 ≤ 512 by omega

/-- … half a row of the output buffer. -/
abbrev cells (s : Fin 16) : Rect S1x8x512 :=
  Rect.unit (s := S1x8x512) ![0, s.val / 2, 256 * (s.val % 2)] S1x1x256.size (cells_inb s)

/-- The output buffer after the body is the sixteen tiles' stores, the last one first. -/
theorem out_eq (x0 : Vec F S1x4096x64 .f32) (x1 : Vec F S8192x64 .f32) :
    out0_2 x0 x1 = View.canon (List.ofFn fun k : Fin 16 =>
      (⟨cells k.rev, tile (View.ld x1 r0_0) (View.ld x0 (rows k.rev))⟩ : View.Piece (Elt F) S1x8x512 .i32)) := rfl

/-- The index of a row of numbers in a table of codes: the first code whose product with the row is greatest. -/
def pick (row : Fin 64 → EReal) (code : Fin 8192 → Fin 64 → EReal) : BitVec 32 :=
  BitVec.ofNat 32 (first fun j => ∑ d : Fin 64, row d * code j d)

/-- The row of the block whose index the output buffer holds at row `a`, column `l`. -/
def rowOf (a : Fin 8) (l : Fin 512) : Fin 4096 := ⟨512 * a.val + l.val, by omega⟩

/-- The output buffer after the body, element by element. -/
theorem out_apply (x0 : Vec Ideal S1x4096x64 .f32) (x1 : Vec Ideal S8192x64 .f32) (a : Fin 8) (l : Fin 512) :
    out0_2 x0 x1 (ix3 0 a l) = pick (fun d => x0 (ix3 0 (rowOf a l) d)) (fun j d => x1 (ix2 j d)) := by
  rw [out_eq, View.ld_unit_lit _ x1 (by decide)]
  refine View.canon_ofFn_unit_eq_of_forall (Val := Elt Ideal) (S := S1x8x512) (e := .i32) (fun k : Fin 16 => ![0, k.rev.val / 2, 256 * (k.rev.val % 2)]) S1x1x256.size
    (fun k => cells_inb k.rev) (fun k => tile x1 (View.ld x0 (rows k.rev))) (ix3 (0 : Fin 1) a l) _ ?_ fun k y hy => ?_
  · have hk : ((⟨2 * a.val + l.val / 256, by omega⟩ : Fin 16).rev.rev).val = 2 * a.val + l.val / 256 := by
      rw [Fin.rev_rev]
    refine ⟨(⟨2 * a.val + l.val / 256, by omega⟩ : Fin 16).rev, fun b => ?_⟩
    rw [hk]
    match b with
    | ⟨0, _⟩ => exact ⟨Nat.le_refl 0, Nat.one_pos⟩
    | ⟨1, _⟩ => show (2 * a.val + l.val / 256) / 2 ≤ a.val ∧ a.val < (2 * a.val + l.val / 256) / 2 + 1; omega
    | ⟨2, _⟩ =>
      show 256 * ((2 * a.val + l.val / 256) % 2) ≤ l.val ∧ l.val < 256 * ((2 * a.val + l.val / 256) % 2) + 256; omega
  · have h1 : a.val = k.rev.val / 2 + (y 1).val := hy 1
    have h2 : l.val = 256 * (k.rev.val % 2) + (y 2).val := hy 2
    have y0 : (y 0).val < 1 := (y 0).isLt
    have y1 : (y 1).val < 1 := (y 1).isLt
    have e : y = ix3 (0 : Fin 1) (0 : Fin 1) (y 2) := funext fun b => match b with
      | ⟨0, _⟩ => Fin.ext (show (y 0).val = 0 by omega)
      | ⟨1, _⟩ => Fin.ext (show (y 1).val = 0 by omega)
      | ⟨2, _⟩ => rfl
    rw [e]
    refine (tile_apply x1 _ (y 2)).trans ?_
    unfold pick
    refine congrArg (fun f => BitVec.ofNat 32 (first f)) (funext fun j => Finset.sum_congr rfl fun d _ => ?_)
    refine congrArg (· * (x1 (ix2 j d) : EReal)) ?_
    refine View.ld_unit_apply_of x0 _ _ _ _ _ fun b => ?_
    match b with
    | ⟨0, _⟩ => rfl
    | ⟨1, _⟩ => show 512 * a.val + l.val = 256 * k.rev.val + (y 2).val; omega
    | ⟨2, _⟩ => show d.val = 0 + d.val; omega

end Cert.Lookup
-- ==== Proof.Whole.lean ====
/-
  What the kernel's run leaves in its results: the grid's four blocks cover the array of indices, and the reshapes before
  and after the call keep the rows in order, so row `(b, r)` of `x` gets its own index at `(b, r)` of the result.
-/
module

public import proofs.«01_k».proof.Proof.Block
public import Idealize.ShloMosaic.Lib.Pipeline.Value
public import Idealize.ShloMosaic.Lib.StableHlo.Run

@[expose] public section

noncomputable section

namespace Cert.Lookup

open Idealize.ShloMosaic Idealize.SL.Sem Idealize.ShloMosaic.TcCoe
open Idealize.ShloMosaic.ValueIdx Cert.KernelIdeal Cert.KernelIdeal.Gen

/-! ## The two functions -/

/-- The index of every row of `x`, as the result holds them. -/
def answer (X : Vec Ideal S16x1024x64 .f32) (C : Vec Ideal S8192x64 .f32) : IVec S16x1024 32 := fun i =>
  pick (fun d => X (ix3 (i 0) (i 1) d)) (fun j d => C (ix2 j d))

/-- The same as the grid writes them: a block of 4096 rows to a block of 8 by 512 indices. -/
def blocks (Y : Vec Ideal S4x4096x64 .f32) (C : Vec Ideal S8192x64 .f32) : IVec S4x8x512 32 := fun i =>
  pick (fun d => Y (ix3 (i 0) (rowOf (i 1) (i 2)) d)) (fun j d => C (ix2 j d))

/-- The reshape of `x` before the call and that of the indices after it undo each other. -/
theorem blocks_reshaped (X : Vec Ideal S16x1024x64 .f32) (C : Vec Ideal S8192x64 .f32)
    (h : S16x1024x64.ShapeCasts S4x4096x64) (h' : S4x8x512.ShapeCasts S16x1024) :
    shapeCast S16x1024 (blocks (shapeCast S4x4096x64 X h) C) h' = answer X C := by
  funext i
  have hb : (i 0).val < 16 := (i 0).isLt
  have hr : (i 1).val < 1024 := (i 1).isLt
  have e : shapeCast S16x1024 (blocks (shapeCast S4x4096x64 X h) C) h' i = blocks (shapeCast S4x4096x64 X h) C
      (ix3 ⟨(i 0).val / 4, by omega⟩ ⟨(1024 * (i 0).val + (i 1).val) % 4096 / 512, by omega⟩ ⟨(i 1).val % 512, by omega⟩) := by
    refine congrArg (blocks (shapeCast S4x4096x64 X h) C) (Shape.reshapeEquiv_eq_of_rowMajor _ ?_)
    rw [Shape.rowMajor_val_three, Shape.rowMajor_val_two]
    show ((i 0).val / 4 * 8 + (1024 * (i 0).val + (i 1).val) % 4096 / 512) * 512 + (i 1).val % 512
      = (i 0).val * 1024 + (i 1).val
    omega
  rw [e]
  unfold blocks answer pick
  refine congrArg (fun f => BitVec.ofNat 32 (first f)) (funext fun j => Finset.sum_congr rfl fun d _ => ?_)
  refine congrArg (· * (C (ix2 j d) : EReal)) ?_
  refine congrArg X (Shape.reshapeEquiv_eq_of_rowMajor _ ?_)
  rw [Shape.rowMajor_val_three, Shape.rowMajor_val_three]
  show ((i 0).val * 1024 + (i 1).val) * 64 + d.val
    = ((i 0).val / 4 * 4096 + (512 * ((1024 * (i 0).val + (i 1).val) % 4096 / 512) + (i 1).val % 512)) * 64 + d.val
  omega

/-! ## The windows' blocks -/

/-- A grid point as a number below four. -/
def pt (t : Fin cfg0.N) : Fin 4 := ⟨t.val, lt_of_lt_of_eq t.isLt N_0⟩

theorem index0 : ∀ t : Fin cfg0.N, win0_0.index t 0 = t.val ∧ win0_0.index t 1 = 0 ∧ win0_0.index t 2 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 ∧ win0_2.index t 2 = 0 :=
  (by decide +kernel : ∀ t : Fin grid0.N, _)

/-- Row `r` of point `t`'s block of `x` is row `r` of part `t` of the array. -/
theorem emb0 (t : Fin cfg0.N) (r : Fin 4096) (d : Fin 64) :
    ((cfg0.win 0).blk t).view.emb (ix3 (0 : Fin 1) r d) = ix3 (pt t) r d := by
  obtain ⟨e0, e1, e2⟩ := index0 t
  funext a; apply Fin.ext
  match a with
  | ⟨0, _⟩ => show win0_0.index t 0 * 1 + 1 * 0 = t.val; omega
  | ⟨1, _⟩ => show win0_0.index t 1 * 4096 + 1 * r.val = r.val; omega
  | ⟨2, _⟩ => show win0_0.index t 2 * 64 + 1 * d.val = d.val; omega

/-- The block of the codebook is the codebook. -/
theorem emb1 (t : Fin cfg0.N) (j : Fin 8192) (d : Fin 64) :
    ((cfg0.win 1).blk t).view.emb (ix2 j d) = ix2 j d := by
  obtain ⟨e0, e1⟩ := index1 t
  funext a; apply Fin.ext
  match a with
  | ⟨0, _⟩ => show win0_1.index t 0 * 8192 + 1 * j.val = j.val; omega
  | ⟨1, _⟩ => show win0_1.index t 1 * 64 + 1 * d.val = d.val; omega

/-- Point `t`'s block of the indices is part `t` of the array. -/
theorem emb2 (t : Fin cfg0.N) (a : Fin 8) (l : Fin 512) :
    ((cfg0.win 2).blk t).view.emb (ix3 (0 : Fin 1) a l) = ix3 (pt t) a l := by
  obtain ⟨e0, e1, e2⟩ := index2 t
  funext b; apply Fin.ext
  match b with
  | ⟨0, _⟩ => show win0_2.index t 0 * 1 + 1 * 0 = t.val; omega
  | ⟨1, _⟩ => show win0_2.index t 1 * 8 + 1 * a.val = a.val; omega
  | ⟨2, _⟩ => show win0_2.index t 2 * 512 + 1 * l.val = l.val; omega

/-! ## The array -/

variable (m : (ℓ : Loc nD τ sig) → Buf (Elt Ideal) ℓ) (ρ : Dev nD → PrngReg)

/-- The array of indices the run leaves. -/
abbrev whole (c : Dev nD) : IVec S4x8x512 32 := blocks (V m c main_v0) (V m c main_arg1)

/-- What a point writes back is its block of that array. -/
theorem flushed_eq (c : Dev nD) (t : Fin cfg0.N) :
    (dats m 0 c).flushed 2 t = ((cfg0.win 2).blk t).view.read (Elt Ideal) (whole m c) := by
  show (cfg0.win 2).cut (grid0.coords t) ((dats m 0 c).after 2 t) = _
  rw [after0_2]
  funext y
  obtain ⟨a, l, rfl⟩ : ∃ (a : Fin 8) (l : Fin 512), y = ix3 (0 : Fin 1) a l := by
    have y0 : (y 0).val < 1 := (y 0).isLt
    exact ⟨y 1, y 2, funext fun b => match b with
      | ⟨0, _⟩ => Fin.ext (show (y 0).val = 0 by omega)
      | ⟨1, _⟩ => rfl
      | ⟨2, _⟩ => rfl⟩
  show out0_2 (iblk m c 0 t) (iblk m c 1 t) (ix3 (0 : Fin 1) a l)
    = whole m c (((cfg0.win 2).blk t).view.emb (ix3 (0 : Fin 1) a l))
  rw [emb2]
  refine (out_apply _ _ a l).trans ?_
  show pick _ _ = pick _ _
  refine congrArg₂ pick (funext fun d => ?_) (funext fun j => funext fun d => ?_)
  · show V m c main_v0 (((cfg0.win 0).blk t).view.emb (ix3 (0 : Fin 1) _ d)) = _
    rw [emb0]
  · show V m c main_arg1 (((cfg0.win 1).blk t).view.emb (ix2 j d)) = _
    rw [emb1]

/-- Every index of the array is in some point's block. -/
theorem covered (i : S4x8x512.Idx) : ∃ t : Fin cfg0.N, (cfg0.win 2).flush t = true ∧ i ∈ ((cfg0.win 2).blk t).view.set := by
  obtain ⟨t, a, l, rfl⟩ : ∃ (t : Fin 4) (a : Fin 8) (l : Fin 512), i = ix3 t a l := ⟨i 0, i 1, i 2, eq_ix3 i⟩
  refine ⟨⟨t.val, lt_of_lt_of_eq t.isLt N_0.symm⟩, flush0_2 _, ?_⟩
  have h := ((cfg0.win 2).blk ⟨t.val, lt_of_lt_of_eq t.isLt N_0.symm⟩).view.emb_mem_set (ix3 (0 : Fin 1) a l)
  rw [emb2] at h
  exact h

/-- So the array ends holding the indices of the rows of `x` as the call finds it. -/
theorem array_eq (c : Dev nD) : (dats m 0 c).arrAt 2 cfg0.N = whole m c :=
  (dats m 0 c).arrAt_eq_of_cover 2 (whole m c) (fun t _ => flushed_eq m c t) covered

/-! ## The run -/

/-- The call finds `x` reshaped to four blocks of 4096 rows. -/
theorem V_main_v0 (c : Dev nD) : V m c main_v0
    = shapeCast S4x4096x64 (m ((c : Thread nD τ).loc main_arg0)) shapeCasts_S16x1024x64_S4x4096x64 := by
  show StableHlo.after hostOps0 _ _ = _
  after_results
  rfl

/-- After the run the first result holds every row's index, … -/
theorem indices_eq (c : Dev nD) : Pipeline.afterTail₀ cfgs (dats m) 0 (V0 m) [hostOps1] c main_v2
    = answer (m ((c : Thread nD τ).loc main_arg0)) (m ((c : Thread nD τ).loc main_arg1)) := by
  unfold Pipeline.afterTail₀
  show StableHlo.after hostOps1 _ _ = _
  after_results
  have e := Pipeline.withArrays_arr spec0 launch0.win.arr_inj c (V0 m c) (fun w => (dats m 0 c).arrAt w cfg0.N) 2
  refine (congrArg (fun A : IVec S4x8x512 32 => shapeCast S16x1024 A shapeCasts_S4x8x512_S16x1024)
    (e.trans (array_eq m c))).trans ?_
  show shapeCast S16x1024 (blocks (V m c main_v0) (V m c main_arg1)) shapeCasts_S4x8x512_S16x1024 = _
  rw [V_main_v0, V_main_arg1]
  exact blocks_reshaped _ _ _ _

/-- … and the second is zero. -/
theorem loss_eq (c : Dev nD) : Pipeline.afterTail₀ cfgs (dats m) 0 (V0 m) [hostOps1] c main_cst
    = constant (F := Ideal) S_ .f32 0x00000000#32 := by
  unfold Pipeline.afterTail₀
  show StableHlo.after hostOps1 _ _ = _
  after_results

/-- The kernel runs; its results are the rows' indices and zero, and its arguments end unchanged. -/
theorem run : θ_run defs (onTc (τ := τ) (main (F := Ideal))) ⟨m, fun _ => 0, ρ⟩ fun r => ∀ c : Dev nD,
      r.2.mem ((c.tc : Thread nD τ).loc main_v2)
        = answer (m ((c.tc : Thread nD τ).loc main_arg0)) (m ((c.tc : Thread nD τ).loc main_arg1))
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (indices_eq m c),
      ((h c).2 main_cst (Pipeline.mem_restRefs_of main_cst (by decide) (by decide))).trans (loss_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Lookup
-- ==== Proof.Ref.lean ====
/-
  The reference's run: its two results as functions of its arguments, which end unchanged. The first is the table of
  places its arg-max finds among the products of the rows with the codes, the second is zero.
-/
module

public import proofs.«01_k».proof.Proof.Gen.ReferenceIdeal
public import proofs.«01_k».proof.Proof.Block
public import Idealize.ShloMosaic.PureOps.Reduce
public import Idealize.ShloMosaic.Lib.StableHlo.Run

@[expose] public section

noncomputable section

namespace Cert.LookupRef

open Idealize.ShloMosaic Idealize.SL.Sem Idealize.ShloMosaic.TcCoe Idealize.ShloMosaic.StableHlo
open Idealize.ShloMosaic.ValueIdx Cert.ReferenceIdeal Cert.ReferenceIdeal.Gen
open Cert.Lookup (first keep foldl_keep_all pick ofBits_minus_inf)

/-! ## The run -/

section Run

variable {F : FTy → Type} [FloatOps F]

/-- The reference's operations, in order. -/
abbrev ops : List (HloOp τ sig (Elt F)) :=
  [ unary main_arg1 main_v0 (transpose S64x8192 [1, 0] · transposes_S8192x64_S64x8192_1_0),
    binary main_arg0 main_v0 main_v1 (fun l r => Host.dotGeneral dot_S16x1024x64_S64x8192_S16x1024x8192_2_0_01_1_n_n none l r),
    nullary main_call0_v0 (iotaInDim S16x1024x8192 32 2),
    nullary main_call0_cst (constant S_ .f32 0xFF800000#32),
    nullary main_call0_c (constantI S_ 32 0#32),
    quaternary main_v1 main_call0_v0 main_call0_cst main_call0_c main_call0_v1_0 (fun x y u v j =>
      (Host.argReduce reducer_argmax_f32_i32 x y u v reducesTo_S16x1024x8192_S16x1024_d2 h_S_ j).1),
    quaternary main_v1 main_call0_v0 main_call0_cst main_call0_c main_v2 (fun x y u v j =>
      (Host.argReduce reducer_argmax_f32_i32 x y u v reducesTo_S16x1024x8192_S16x1024_d2 h_S_ j).2),
    nullary main_cst (constant S_ .f32 0x00000000#32) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., nullary_bufs_sub .., nullary_bufs_sub ..,
    quaternary_bufs_sub .., quaternary_bufs_sub .., nullary_bufs_sub ..⟩

/-- The products of every row of `x` with every code. -/
def products (X : Vec F S16x1024x64 .f32) (C : Vec F S8192x64 .f32) : FVec F S16x1024x8192 .f32 :=
  Host.dotGeneral dot_S16x1024x64_S64x8192_S16x1024x8192_2_0_01_1_n_n none X
    (transpose S64x8192 [1, 0] C transposes_S8192x64_S64x8192_1_0)

/-- The arg-max's pair for every row: the value and its place. -/
def pairs (x : FVec F S16x1024x8192 .f32) : S16x1024.Idx → F .f32 × BitVec 32 :=
  Host.argReduce reducer_argmax_f32_i32 x (iotaInDim S16x1024x8192 32 2) (constant S_ .f32 0xFF800000#32)
    (constantI S_ 32 0#32) reducesTo_S16x1024x8192_S16x1024_d2 h_S_

theorem pairs_eq (x : FVec F S16x1024x8192 .f32) : pairs x =
    Host.argReduce reducer_argmax_f32_i32 x (iotaInDim S16x1024x8192 32 2) (constant S_ .f32 0xFF800000#32)
      (constantI S_ 32 0#32) reducesTo_S16x1024x8192_S16x1024_d2 h_S_ := rfl

/-- The places of a table of pairs. -/
def places (p : S16x1024.Idx → F .f32 × BitVec 32) : IVec S16x1024 32 := fun i => (p i).2

theorem places_apply (p : S16x1024.Idx → F .f32 × BitVec 32) (i : S16x1024.Idx) : places p i = (p i).2 := rfl

/-- The first result as a function of the arguments. -/
def indices (X : Vec F S16x1024x64 .f32) (C : Vec F S8192x64 .f32) : IVec S16x1024 32 := places (pairs (products X C))

theorem indices_after (V : Valuation τ sig (Elt F)) : after ops V (main_v2 : DevRef τ sig)
    = indices (V (main_arg0 : DevRef τ sig)) (V (main_arg1 : DevRef τ sig)) := by
  after_results
  exact congrArg places (pairs_eq (products _ _)).symm

theorem loss_after (V : Valuation τ sig (Elt F)) : after ops V (main_cst : DevRef τ sig)
    = constant (F := F) S_ .f32 0x00000000#32 := by
  after_results

theorem arg0_after (V : Valuation τ sig (Elt F)) : after ops V (main_arg0 : DevRef τ sig) = V (main_arg0 : DevRef τ sig) := by
  after_results
theorem arg1_after (V : Valuation τ sig (Elt F)) : after ops V (main_arg1 : DevRef τ sig) = V (main_arg1 : DevRef τ sig) := by
  after_results

variable (m : (ℓ : Loc nD τ sig) → Buf (Elt F) ℓ) (ρ : Dev nD → PrngReg)

/-- The reference runs; its results are those functions of the arguments, which end unchanged. -/
theorem run : θ_run defs (onTc (τ := τ) (main (F := F))) ⟨m, fun _ => 0, ρ⟩ fun r => ∀ c : Dev nD,
      r.2.mem ((c.tc : Thread nD τ).loc main_v2)
        = indices (m ((c.tc : Thread nD τ).loc main_arg0)) (m ((c.tc : Thread nD τ).loc main_arg1))
      ∧ r.2.mem ((c.tc : Thread nD τ).loc main_cst) = constant (F := F) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (indices_after _), (h c main_cst).trans (loss_after _),
      (h c main_arg0).trans (arg0_after _), (h c main_arg1).trans (arg1_after _)⟩)
    (run_seq scopedRefs_eq scopedSems_eq defs main (fun _ => ops) main_eq (fun _ => ops_sub) m ρ)

/-- Its arguments end unchanged and, as it declares no semaphore, every counter is at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems (by decide) r.2⟩) (run m ρ)

end Run

end Cert.LookupRef
-- ==== Proof.RefFold.lean ====
/-
  The reference's arg-max, a fold over a row's pairs of product and place, ends at the first place of the greatest.
-/
module

public import proofs.«01_k».proof.Proof.Ref

@[expose] public section

noncomputable section

namespace Cert.LookupRef

open Idealize.ShloMosaic
open Idealize.ShloMosaic.ValueIdx Cert.ReferenceIdeal Cert.ReferenceIdeal.Gen
open Cert.Lookup (first keep foldl_keep_all ofBits_minus_inf select_ofBool)

/-! ## The fold -/

/-- A pair of a product and a place, the place as a word. -/
def asWord (p : EReal × ℕ) : Ideal .f32 × BitVec 32 := (p.1, BitVec.ofNat 32 p.2)

/-- On places below 8192 the order of the words, read as signed, is that of the places. -/
theorem slt_ofNat (k l : ℕ) (hk : k < 8192) (hl : l < 8192) :
    (BitVec.ofNat 32 k).slt (BitVec.ofNat 32 l) = decide (k < l) := by
  have e : ∀ n, n < 8192 → (BitVec.ofNat 32 n).toInt = (n : ℤ) := fun n hn => by
    rw [BitVec.toInt_ofNat']
    exact Int.bmod_eq_of_le (by norm_num) (by norm_num; omega)
  rw [BitVec.slt, e k hk, e l hl]
  exact decide_eq_decide.mpr Int.ofNat_lt

/-- The reference's step keeps the pair of the greater product, the earlier place on equal products. -/
theorem step_eq (a b : EReal × ℕ) (ha : a.2 < 8192) (hb : b.2 < 8192) :
    reducer_argmax_f32_i32 (F := Ideal) (asWord a) (asWord b) = asWord (keep a b) := by
  obtain ⟨x, k⟩ := a
  obtain ⟨y, l⟩ := b
  have hs : IntOp.cmpi .slt (BitVec.ofNat 32 k) (BitVec.ofNat 32 l) = BitVec.ofBool (decide (k < l)) :=
    congrArg BitVec.ofBool (slt_ofNat k l ha hb)
  have hn : Ideal.cmp .une x x = 0#1 := congrArg BitVec.ofBool (decide_eq_false (not_not_intro rfl))
  have h4 : IntOp.ori (Ideal.cmp .ogt x y) (Ideal.cmp .une x x) = BitVec.ofBool (decide (y < x)) := by
    rw [hn]; exact BitVec.or_zero
  have h7 : IntOp.andi (Ideal.cmp .oeq x y) (IntOp.cmpi .slt (BitVec.ofNat 32 k) (BitVec.ofNat 32 l))
      = BitVec.ofBool (decide (x = y ∧ k < l)) := by
    rw [hs, Bool.decide_and]
    exact BitVec.ofBool_and_ofBool
  have h8 : IntOp.ori (BitVec.ofBool (decide (y < x))) (BitVec.ofBool (decide (x = y ∧ k < l)))
      = BitVec.ofBool (decide (y < x ∨ x = y ∧ k < l)) := by
    rw [Bool.decide_or]
    exact BitVec.ofBool_or_ofBool
  have e : reducer_argmax_f32_i32 (F := Ideal) (asWord (x, k)) (asWord (y, l))
      = (if y < x then x else y, if y < x ∨ x = y ∧ k < l then BitVec.ofNat 32 k else BitVec.ofNat 32 l) := by
    rw [← select_ofBool, ← select_ofBool, ← h8, ← h7, ← h4]
    rfl
  rw [e]
  unfold keep asWord
  by_cases h : y < x
  · simp only [if_pos h, if_pos (Or.inl h)]
  · by_cases h' : x = y ∧ k < l
    · simp only [if_neg h, if_pos h', if_pos (Or.inr h')]
      rw [h'.1]
    · simp only [if_neg h, if_neg h', if_neg (not_or.mpr ⟨h, h'⟩)]

/-- So its fold over a list of places is the fold that keeps, at every step, one of the two pairs. -/
theorem fold_eq (L : Fin 8192 → EReal) : ∀ (l : List (Fin 8192)) (a : EReal × ℕ), a.2 < 8192 →
    (l.map fun j => asWord (L j, j.val)).foldl (reducer_argmax_f32_i32 (F := Ideal)) (asWord a)
      = asWord ((l.map fun j => (L j, j.val)).foldl keep a)
  | [], _, _ => rfl
  | j :: l, a, ha => by
    rw [List.map_cons, List.map_cons, List.foldl_cons, List.foldl_cons, step_eq a (L j, j.val) ha j.isLt]
    refine fold_eq L l _ ?_
    unfold keep
    split
    · exact ha
    · split
      · exact ha
      · exact j.isLt

/-! ## The arg-max over the last axis -/

/-- The arg-max of an array along an axis of 8192 places (`put` puts a place into the result's index, `place` is an
    index's place), the places numbered from 0, is the first place of the greatest element. -/
theorem argReduce_apply {s t u : Shape} {axes : List (Fin s.rank)} (x : FVec Ideal s .f32) (y : IVec s 32)
    (v : FVec Ideal u .f32) (w : IVec u 32) (h : s.ReducesTo axes t) (hu : 0 < u.numel) (i : t.Idx)
    (put : Fin 8192 → s.Idx) (place : s.Idx → Fin 8192) (hput : ∀ k, h.drop (put k) = i)
    (hplace : ∀ k, place (put k) = k) (hinv : ∀ q, h.drop q = i → put (place q) = q)
    (hy : ∀ k, y (put k) = BitVec.ofNat 32 k.val) (hv : v (Shape.Idx.first hu) = (⊥ : EReal))
    (hw : w (Shape.Idx.first hu) = BitVec.ofNat 32 0) (p : t.Idx → Ideal .f32 × BitVec 32)
    (hp : p = Host.argReduce (reducer_argmax_f32_i32 (F := Ideal)) x y v w h hu) :
    (p i).2 = BitVec.ofNat 32 (first fun k => x (put k)) := by
  rw [hp, Ideal.argReduce_eq_reduce2, Host.reduce2_eq_foldl_fiber]
  obtain ⟨l, hl, e⟩ : ∃ l : List (Fin 8192), (∀ k, k ∈ l)
      ∧ Host.argReduceFiber x y h i = l.map fun k => asWord (x (put k), k.val) := by
    refine ⟨((List.finRange s.numel).filter fun n => h.drop (s.rowMajor.symm n) = i).map
      fun n => place (s.rowMajor.symm n), fun k => ?_, ?_⟩
    · refine List.mem_map.mpr ⟨s.rowMajor (put k), List.mem_filter.mpr ⟨List.mem_finRange _, ?_⟩, ?_⟩
      · rw [Equiv.symm_apply_apply]
        exact decide_eq_true (hput k)
      · rw [Equiv.symm_apply_apply]
        exact hplace k
    · rw [Host.argReduceFiber, List.map_map]
      refine List.map_congr_left fun n hn => ?_
      have hq := hinv (s.rowMajor.symm n) (of_decide_eq_true (List.mem_filter.mp hn).2)
      show (x (s.rowMajor.symm n), y (s.rowMajor.symm n)) = (x (put (place (s.rowMajor.symm n))), _)
      rw [← hy, hq]
  rw [e, hv, hw]
  refine (congrArg Prod.snd (fold_eq (fun k => x (put k)) l (⊥, 0) (by decide))).trans ?_
  exact congrArg (BitVec.ofNat 32) (foldl_keep_all (fun k => x (put k)) l hl)

end Cert.LookupRef
-- ==== Proof.RefValue.lean ====
/-
  The reference's first result is the same function of the arguments as the kernel's: its products are those of the
  rows with the codes, and its arg-max, a fold over a row's pairs of product and place, ends at the first place of the
  greatest product.
-/
module

public import proofs.«01_k».proof.Proof.RefFold
public import proofs.«01_k».proof.Proof.Whole

@[expose] public section

noncomputable section

namespace Cert.LookupRef

open Idealize.ShloMosaic
open Idealize.ShloMosaic.ValueIdx Cert.ReferenceIdeal Cert.ReferenceIdeal.Gen
open Cert.Lookup (first keep foldl_keep_all pick answer ofBits_minus_inf select_ofBool)

/-! ## The arg-max -/

/-- Dropping the last coordinate keeps the first two. -/
theorem row_eq {q : S16x1024x8192.Idx} {i : S16x1024.Idx} (h : reducesTo_S16x1024x8192_S16x1024_d2.drop q = i) :
    ix2 (q 0) (q 1) = i :=
  Eq.trans (b := reducesTo_S16x1024x8192_S16x1024_d2.drop q)
    (funext fun a => match a with | ⟨0, _⟩ => rfl | ⟨1, _⟩ => rfl) h

/-- At the reference's shapes the result's index is a row's, and a place is the last coordinate. -/
theorem pairs_apply (x : FVec Ideal S16x1024x8192 .f32) (b : Fin 16) (r : Fin 1024) :
    (pairs x (ix2 b r)).2 = BitVec.ofNat 32 (first fun j => x (ix3 b r j)) :=
  argReduce_apply x _ _ _ _ _ (ix2 b r) (fun k => ix3 b r k) (fun q => q 2)
    (fun _ => funext fun a => match a with | ⟨0, _⟩ => rfl | ⟨1, _⟩ => rfl) (fun _ => rfl)
    (fun q hq => funext fun a => match a with
      | ⟨0, _⟩ => (congrFun (row_eq hq) 0).symm
      | ⟨1, _⟩ => (congrFun (row_eq hq) 1).symm
      | ⟨2, _⟩ => rfl)
    (fun _ => rfl) ofBits_minus_inf rfl (pairs x) (pairs_eq x)

/-! ## The products -/

/-- A product of the reference is that of a row of `x` with a code. -/
theorem product_apply (X : Vec Ideal S16x1024x64 .f32) (C : Vec Ideal S8192x64 .f32) (b : Fin 16) (r : Fin 1024) (j : Fin 8192) :
    products X C (ix3 b r j) = ∑ d : Fin 64, (X (ix3 b r d) * C (ix2 j d) : EReal) := by
  unfold products
  refine (Ideal.dotGeneral_apply _ _ _ _ _ _).trans ?_
  rw [← Equiv.sum_comp (contrEquiv1 dot_S16x1024x64_S64x8192_S16x1024x8192_2_0_01_1_n_n 64 rfl rfl).symm]
  refine Finset.sum_congr rfl fun d _ => ?_
  congr 1
  · exact congrArg X (funext fun a => match a with | ⟨0, _⟩ => rfl | ⟨1, _⟩ => rfl | ⟨2, _⟩ => rfl)
  · exact transpose_apply _ C _ _ (ix2 j d) fun a => match a with | ⟨0, _⟩ => rfl | ⟨1, _⟩ => rfl

/-- The reference's indices are the kernel's. -/
theorem indices_eq (X : Vec Ideal S16x1024x64 .f32) (C : Vec Ideal S8192x64 .f32) : indices X C = answer X C := by
  funext i
  obtain ⟨b, r, rfl⟩ : ∃ (b : Fin 16) (r : Fin 1024), i = ix2 b r := ⟨i 0, i 1, eq_ix2 i⟩
  refine (places_apply (pairs (products X C)) (ix2 b r)).trans ((pairs_apply (products X C) b r).trans ?_)
  show _ = BitVec.ofNat 32 (first fun j => ∑ d : Fin 64, (X (ix3 b r d) * C (ix2 j d) : EReal))
  exact congrArg (fun f => BitVec.ofNat 32 (first f)) (funext fun j => product_apply X C b r j)

end Cert.LookupRef
-- ==== Proof.lean ====
/-
  The proof of `Cert.Claim` (Defs.lean): the three frames, the idealization's ledger (it is empty), and that the kernel and
  the reference compute the same two results over the extended reals.

  Tile.lean names what the kernel computes for 256 rows of `x`; TileValue.lean and TileRow.lean say what that is, Pick.lean
  being the mathematics of a running maximum; Block.lean puts the tiles of a grid point together, Whole.lean the grid points;
  Ref.lean runs the reference, RefFold.lean reads its arg-max, RefValue.lean its products.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Whole
public import proofs.«01_k».proof.Proof.RefValue
public import Idealize.ShloMosaic.Adequacy
public import Idealize.ShloMosaic.Init

@[expose] public section

noncomputable section

namespace Cert.Proof

open Idealize.ShloMosaic Idealize.SL.Sem

/-- Over the extended reals both programs end with every row's index and with zero, their arguments unchanged. -/
theorem algebraic : Cert.algebraic_KernelIdeal_ReferenceIdeal := by
  intro m g m' g' _ hagree
  refine ⟨fun c => Cert.Lookup.answer (m ((c.tc : Thread _ Cert.KernelIdeal.τ).loc Cert.KernelIdeal.main_arg0))
      (m ((c.tc : Thread _ Cert.KernelIdeal.τ).loc Cert.KernelIdeal.main_arg1)),
    fun _ => constant (F := Ideal) Cert.KernelIdeal.S_ .f32 0x00000000#32, Cert.Lookup.run m g, ?_⟩
  refine (θ_run Cert.ReferenceIdeal.defs _ _).mono (fun r h c => ?_) (Cert.LookupRef.run (F := Ideal) m' g')
  obtain ⟨h1, h2, h3, h4⟩ := h c
  obtain ⟨a0, a1⟩ := hagree c
  refine ⟨h1.trans ?_, h2, h3, h4⟩
  rw [a0, a1]
  exact Cert.LookupRef.indices_eq _ _

/-- Every claim. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.LookupRef.frame m g, trivial, algebraic⟩

end Cert.Proof

end
